-- ==== Defs.lean ====
def Pre_Kernel [hPre_index_in_table : Cert.Pre_index_in_table.Facts] (m : (ℓ : Loc Cert.Kernel.nD Cert.Kernel.τ Cert.Kernel.sig) → Buf (Elt Bits) ℓ) : Prop :=
  ∀ c : Dev Cert.Kernel.nD,
    (Cert.Pre_index_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_index_in_table : Cert.Pre_index_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_table [hPre_index_in_table : Cert.Pre_index_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_index_in_table : Cert.Pre_index_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_index_in_table : Cert.Pre_index_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_in_table [hReferenceIdeal : Cert.ReferenceIdeal.Facts] [hPre_index_in_table : Cert.Pre_index_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_table : Cert.Pre_index_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_in_table : Cert.Pre_index_in_table.Facts),
    quiescent_Kernel (hKernel := hKernel) (hPre_index_in_table := hPre_index_in_table)
    ∧ quiescent_KernelIdeal (hKernelIdeal := hKernelIdeal) (hPre_index_in_table := hPre_index_in_table)
    ∧ quiescent_ReferenceIdeal (hReferenceIdeal := hReferenceIdeal)
    ∧ quiescent_ReferenceIdeal_pre_index_in_table (hReferenceIdeal := hReferenceIdeal) (hPre_index_in_table := hPre_index_in_table)
    ∧ preserves_Kernel_KernelIdeal
    ∧ algebraic_KernelIdeal_ReferenceIdeal (hKernelIdeal := hKernelIdeal) (hReferenceIdeal := hReferenceIdeal) (hPre_index_in_table := hPre_index_in_table)
-- ==== Pre_index_in_table.lean ====
abbrev S4x4096x768 : Shape := ⟨3, ![4, 4096, 768]⟩
abbrev S21x768 : Shape := ⟨2, ![21, 768]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x4096x768 .f32) (main_arg1 : FVec F S21x768 .f32) (main_arg2 : IVec S1 32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 21#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S4x4096x768 : Shape := ⟨3, ![4, 4096, 768]⟩
abbrev S21x768 : Shape := ⟨2, ![21, 768]⟩
abbrev S1 : Shape := ⟨1, ![1]⟩
abbrev S4097x4x768 : Shape := ⟨3, ![4097, 4, 768]⟩
abbrev S2x4x1024x768 : Shape := ⟨4, ![2, 4, 1024, 768]⟩
abbrev S2x1024x4x768 : Shape := ⟨4, ![2, 1024, 4, 768]⟩
abbrev S1x4x768 : Shape := ⟨3, ![1, 4, 768]⟩
abbrev S2 : Shape := ⟨1, ![2]⟩
abbrev S_ : Shape := ⟨0, ![]⟩
abbrev S1x768 : Shape := ⟨2, ![1, 768]⟩
abbrev S768 : Shape := ⟨1, ![768]⟩
abbrev S1x1x768 : Shape := ⟨3, ![1, 1, 768]⟩
abbrev S1x1x256x768 : Shape := ⟨4, ![1, 1, 256, 768]⟩
abbrev S256x768 : Shape := ⟨2, ![256, 768]⟩
abbrev S1x256x768 : Shape := ⟨3, ![1, 256, 768]⟩
abbrev S1x1x1024x768 : Shape := ⟨4, ![1, 1, 1024, 768]⟩
abbrev S1024x768 : Shape := ⟨2, ![1024, 768]⟩
abbrev S1x1024x768 : Shape := ⟨3, ![1, 1024, 768]⟩
abbrev S1x4x256x768 : Shape := ⟨4, ![1, 4, 256, 768]⟩
abbrev S4x256x768 : Shape := ⟨3, ![4, 256, 768]⟩
abbrev S256x4x768 : Shape := ⟨3, ![256, 4, 768]⟩
abbrev S1x256x4x768 : Shape := ⟨4, ![1, 256, 4, 768]⟩
abbrev S1x4x1024x768 : Shape := ⟨4, ![1, 4, 1024, 768]⟩
abbrev S4x1024x768 : Shape := ⟨3, ![4, 1024, 768]⟩
abbrev S1024x4x768 : Shape := ⟨3, ![1024, 4, 768]⟩
abbrev S1x1024x4x768 : Shape := ⟨4, ![1, 1024, 4, 768]⟩
abbrev S1x1x512x768 : Shape := ⟨4, ![1, 1, 512, 768]⟩
abbrev S512x768 : Shape := ⟨2, ![512, 768]⟩
abbrev S1x512x768 : Shape := ⟨3, ![1, 512, 768]⟩
abbrev S1x4x512x768 : Shape := ⟨4, ![1, 4, 512, 768]⟩
abbrev S4x512x768 : Shape := ⟨3, ![4, 512, 768]⟩
abbrev S512x4x768 : Shape := ⟨3, ![512, 4, 768]⟩
abbrev S1x512x4x768 : Shape := ⟨4, ![1, 512, 4, 768]⟩
abbrev S4x4097x768 : Shape := ⟨3, ![4, 4097, 768]⟩

abbrev nBuf : Space → Nat
  | .hbm => 5
  | .vmem => 4
  | .smem => 1
  | _ => 0

abbrev bufTy : (tb : Table) → Fin (tcTables nBuf tb) → BufTy
  | .hbm, ⟨0, _⟩ => ⟨S4x4096x768, .f32⟩
  | .hbm, ⟨1, _⟩ => ⟨S21x768, .f32⟩
  | .hbm, ⟨2, _⟩ => ⟨S1, .i32⟩
  | .hbm, ⟨3, _⟩ => ⟨S4097x4x768, .f32⟩
  | .hbm, ⟨4, _⟩ => ⟨S4x4097x768, .f32⟩
  | .local _ .vmem, ⟨0, _⟩ => ⟨S21x768, .f32⟩
  | .local _ .vmem, ⟨1, _⟩ => ⟨S2x4x1024x768, .f32⟩
  | .local _ .vmem, ⟨2, _⟩ => ⟨S2x1024x4x768, .f32⟩
  | .local _ .vmem, ⟨3, _⟩ => ⟨S1x4x768, .f32⟩
  | .local _ .smem, ⟨0, _⟩ => ⟨S1, .i32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (v0 : BitVec 32) : Fin 2 → Nat :=
  let v1 : Index := Scalar.indexCast v0
  let c0_0 : Index := 0#32
  ![v1.toNat, 0]

def k0_chk1 (v0 : BitVec 32) : Prop :=
  (∀ a, (k0_off1 v0) a + S1x768.size a ≤ S21x768.size a)
theorem k0_off1_inb : ∀ (v0 : BitVec 32) (k0_hw1 : k0_chk1 v0), ∀ a, (k0_off1 v0) a + S1x768.size a ≤ S21x768.size a := fun v0 k0_hw1 => k0_hw1

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x4096x768 : Shape := ⟨3, ![4, 4096, 768]⟩
abbrev S21x768 : Shape := ⟨2, ![21, 768]⟩
abbrev S1 : Shape := ⟨1, ![1]⟩
abbrev S_ : Shape := ⟨0, ![]⟩
abbrev S1x1 : Shape := ⟨2, ![1, 1]⟩
abbrev S1x768 : Shape := ⟨2, ![1, 768]⟩
abbrev S1x1x768 : Shape := ⟨3, ![1, 1, 768]⟩
abbrev S4x1x768 : Shape := ⟨3, ![4, 1, 768]⟩
abbrev S4x4097x768 : Shape := ⟨3, ![4, 4097, 768]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S21x768, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x768, .f32⟩
  | .hbm, ⟨21, _⟩ => ⟨S1x768, .i1⟩
  | .hbm, ⟨22, _⟩ => ⟨S_, .f32⟩
  | .hbm, ⟨23, _⟩ => ⟨S1x768, .f32⟩
  | .hbm, ⟨24, _⟩ => ⟨S1x768, .f32⟩
  | .hbm, ⟨25, _⟩ => ⟨S1x1x768, .f32⟩
  | .hbm, ⟨26, _⟩ => ⟨S4x1x768, .f32⟩
  | .hbm, ⟨27, _⟩ => ⟨S4x4097x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Windows.lean ====
/-
  Windows of a buffer, and the array the kernel builds.

  The kernel moves `code` chunk by chunk through a two-slot staging buffer: four copies bring one chunk of rows (one copy
  per batch) into a slot, the slot is transposed into a second two-slot buffer, and one copy takes that slot to the
  rows of the result where the chunk belongs. This file says, for any sizes, what each of these moves leaves where it is
  read afterwards, and what a result written band of rows after band of rows holds.
-/
module

public import Idealize.ShloMosaic.Lib.WritesUnit
public import Idealize.ShloMosaic.Lib.ValueLayout
public import Idealize.ShloMosaic.Lib.Pipeline.Value

@[expose] public section

namespace Cert.Hand

open Idealize.ShloMosaic Idealize.ShloMosaic.ValueIdx

variable {sig : RefSig} {κ : Kind} {sp : Space} {e : EltTy} {Val : EltTy → Type} {A B C D n : ℕ}

/-! ## One copy into a slot -/

/-- Position `(r, d)` of the window "slot `s`, batch `b`, the first `n` rows" is position `(s, b, r, d)` of the buffer. -/
theorem slotWindow_emb (M : Memref sig κ sp ⟨4, ![A, B, C, D]⟩ e) (s b : ℕ)
    (inb : ∀ a, (![s, b, 0, 0] : Fin 4 → ℕ) a + (![1, 1, n, D] : Fin 4 → ℕ) a ≤ (![A, B, C, D] : Fin 4 → ℕ) a)
    (hs) (hq : (⟨4, ![1, 1, n, D]⟩ : Shape).Squeezes ⟨2, ![n, D]⟩)
    (x : Fin n) (d : Fin D) (s' : Fin A) (b' : Fin B) (r : Fin C) (h0 : s'.val = s) (h1 : b'.val = b) (h2 : r.val = x.val) :
    ((M.slice (Rect.unit (s := ⟨4, ![A, B, C, D]⟩) ![s, b, 0, 0] ![1, 1, n, D] inb) hs).squeeze ⟨2, ![n, D]⟩ hq).view.emb (ix2 x d)
      = M.view.emb (ix4 s' b' r d) := by
  show M.view.emb ((Rect.unit (s := ⟨4, ![A, B, C, D]⟩) ![s, b, 0, 0] ![1, 1, n, D] inb).emb (Shape.reshapeEquiv hq.numel_eq (ix2 x d))) = _
  rw [reshapeEquiv_ix2_11ab]
  refine congrArg M.view.emb (funext fun a => Fin.ext ?_)
  match a with
  | ⟨0, _⟩ => show s + 1 * 0 = s'.val; omega
  | ⟨1, _⟩ => show b + 1 * 0 = b'.val; omega
  | ⟨2, _⟩ => show 0 + 1 * x.val = r.val; omega
  | ⟨3, _⟩ => show 0 + 1 * d.val = d.val; omega

/-- After a copy into that window, a position in it reads what was copied. -/
theorem read_slotWindow_hit (M : Memref sig κ sp ⟨4, ![A, B, C, D]⟩ e) (s b : ℕ)
    (inb : ∀ a, (![s, b, 0, 0] : Fin 4 → ℕ) a + (![1, 1, n, D] : Fin 4 → ℕ) a ≤ (![A, B, C, D] : Fin 4 → ℕ) a)
    (hs) (hq : (⟨4, ![1, 1, n, D]⟩ : Shape).Squeezes ⟨2, ![n, D]⟩)
    (g : M.view.ty.Contents Val) (w : (⟨2, ![n, D]⟩ : Shape).Idx → Val e)
    (x : Fin n) (d : Fin D) (s' : Fin A) (b' : Fin B) (r : Fin C) (h0 : s'.val = s) (h1 : b'.val = b) (h2 : r.val = x.val) :
    M.view.read Val (((M.slice (Rect.unit (s := ⟨4, ![A, B, C, D]⟩) ![s, b, 0, 0] ![1, 1, n, D] inb) hs).squeeze ⟨2, ![n, D]⟩ hq).view.write
      Val g w Finset.univ) (ix4 s' b' r d) = w (ix2 x d) := by
  refine Eq.trans ?_ (View.read_write_of_mem (v := ((M.slice (Rect.unit (s := ⟨4, ![A, B, C, D]⟩) ![s, b, 0, 0] ![1, 1, n, D] inb) hs).squeeze
    ⟨2, ![n, D]⟩ hq).view) g w (Finset.mem_univ (ix2 x d)))
  rw [View.read_apply, View.read_apply, slotWindow_emb M s b inb hs hq x d s' b' r h0 h1 h2]

/-- After a copy into that window, a position of another slot or of another batch reads what it read before. -/
theorem read_slotWindow_miss (M : Memref sig κ sp ⟨4, ![A, B, C, D]⟩ e) (s b : ℕ)
    (inb : ∀ a, (![s, b, 0, 0] : Fin 4 → ℕ) a + (![1, 1, n, D] : Fin 4 → ℕ) a ≤ (![A, B, C, D] : Fin 4 → ℕ) a)
    (hs) (hq : (⟨4, ![1, 1, n, D]⟩ : Shape).Squeezes ⟨2, ![n, D]⟩)
    (g : M.view.ty.Contents Val) (w : (⟨2, ![n, D]⟩ : Shape).Idx → Val e)
    (d : Fin D) (s' : Fin A) (b' : Fin B) (r : Fin C) (h : s'.val ≠ s ∨ b'.val ≠ b) :
    M.view.read Val (((M.slice (Rect.unit (s := ⟨4, ![A, B, C, D]⟩) ![s, b, 0, 0] ![1, 1, n, D] inb) hs).squeeze ⟨2, ![n, D]⟩ hq).view.write
      Val g w Finset.univ) (ix4 s' b' r d) = M.view.read Val g (ix4 s' b' r d) := by
  refine View.read_congr_at (v := M.view) _ (View.write_of_not_mem _ _ _ ?_)
  rw [View.setOn_univ]
  show M.view.emb (ix4 s' b' r d) ∉ ((M.view.slice (Rect.unit (s := ⟨4, ![A, B, C, D]⟩) ![s, b, 0, 0] ![1, 1, n, D] inb)).reshape
    ⟨2, ![n, D]⟩ hq.numel_eq).set
  rw [View.set_reshape, View.set_slice, Finset.mem_map' , Rect.mem_set_unit]
  intro hall
  have a0 : s ≤ s'.val ∧ s'.val < s + 1 := hall (0 : Fin 4)
  have a1 : b ≤ b'.val ∧ b'.val < b + 1 := hall (1 : Fin 4)
  omega

/-! ## A chunk in its slot -/

/-- The slot `s` of the staging buffer holds, batch by batch, the `n` rows of `code` from row `o` on. -/
def SlotHolds {α : Type} {R : ℕ} (code : (⟨3, ![B, R, D]⟩ : Shape).Idx → α) (s o n : ℕ)
    (g : (⟨4, ![A, B, C, D]⟩ : Shape).Idx → α) : Prop :=
  ∀ (s' : Fin A) (b : Fin B) (r : Fin C) (d : Fin D) (k : Fin R), s'.val = s → r.val < n → k.val = o + r.val → g (ix4 s' b r d) = code (ix3 b k d)

/-- The same, of the batches below `b` only. -/
def SlotHoldsTo {α : Type} {R : ℕ} (code : (⟨3, ![B, R, D]⟩ : Shape).Idx → α) (s o n b : ℕ)
    (g : (⟨4, ![A, B, C, D]⟩ : Shape).Idx → α) : Prop :=
  ∀ (s' : Fin A) (b' : Fin B) (r : Fin C) (d : Fin D) (k : Fin R), b'.val < b → s'.val = s → r.val < n → k.val = o + r.val → g (ix4 s' b' r d) = code (ix3 b' k d)

/-- Before any copy nothing is asked. -/
theorem slotHoldsTo_zero {α : Type} {R : ℕ} (code : (⟨3, ![B, R, D]⟩ : Shape).Idx → α) (s o n : ℕ)
    (g : (⟨4, ![A, B, C, D]⟩ : Shape).Idx → α) : SlotHoldsTo code s o n 0 g :=
  fun _ _ _ _ _ h => absurd h (Nat.not_lt_zero _)

/-- Once every batch is copied the slot holds the chunk. -/
theorem SlotHoldsTo.done {α : Type} {R : ℕ} {code : (⟨3, ![B, R, D]⟩ : Shape).Idx → α} {s o n : ℕ}
    {g : (⟨4, ![A, B, C, D]⟩ : Shape).Idx → α} (h : SlotHoldsTo code s o n B g) : SlotHolds code s o n g :=
  fun s' b r d k => h s' b r d k b.isLt

/-- The copy of one more batch's rows. -/
theorem SlotHoldsTo.copy {R : ℕ} {M : Memref sig κ sp ⟨4, ![A, B, C, D]⟩ e} {code : (⟨3, ![B, R, D]⟩ : Shape).Idx → Val e} {s o b : ℕ}
    {g : M.view.ty.Contents Val} (h : SlotHoldsTo code s o n b (M.view.read Val g))
    (inb : ∀ a, (![s, b, 0, 0] : Fin 4 → ℕ) a + (![1, 1, n, D] : Fin 4 → ℕ) a ≤ (![A, B, C, D] : Fin 4 → ℕ) a)
    (hs) (hq : (⟨4, ![1, 1, n, D]⟩ : Shape).Squeezes ⟨2, ![n, D]⟩) (w : (⟨2, ![n, D]⟩ : Shape).Idx → Val e)
    (hw : ∀ (x : Fin n) (d : Fin D) (b' : Fin B) (k : Fin R), b'.val = b → k.val = o + x.val → w (ix2 x d) = code (ix3 b' k d)) :
    SlotHoldsTo code s o n (b + 1) (M.view.read Val (((M.slice (Rect.unit (s := ⟨4, ![A, B, C, D]⟩) ![s, b, 0, 0] ![1, 1, n, D] inb) hs).squeeze
      ⟨2, ![n, D]⟩ hq).view.write Val g w Finset.univ)) := by
  intro s' b' r d k hb hs' hr hk
  by_cases he : b'.val = b
  · exact (read_slotWindow_hit M s b inb hs hq g w ⟨r.val, hr⟩ d s' b' r hs' he rfl).trans (hw ⟨r.val, hr⟩ d b' k he hk)
  · exact (read_slotWindow_miss M s b inb hs hq g w d s' b' r (.inr he)).trans (h s' b' r d k (by omega) hs' hr hk)

/-- A copy into the other slot leaves the chunk. -/
theorem SlotHolds.other {R m : ℕ} {M : Memref sig κ sp ⟨4, ![A, B, C, D]⟩ e} {code : (⟨3, ![B, R, D]⟩ : Shape).Idx → Val e} {s o s₂ b₂ : ℕ}
    {g : M.view.ty.Contents Val} (h : SlotHolds code s o m (M.view.read Val g))
    (inb : ∀ a, (![s₂, b₂, 0, 0] : Fin 4 → ℕ) a + (![1, 1, n, D] : Fin 4 → ℕ) a ≤ (![A, B, C, D] : Fin 4 → ℕ) a)
    (hs) (hq : (⟨4, ![1, 1, n, D]⟩ : Shape).Squeezes ⟨2, ![n, D]⟩) (w : (⟨2, ![n, D]⟩ : Shape).Idx → Val e) (hne : s ≠ s₂) :
    SlotHolds code s o m (M.view.read Val (((M.slice (Rect.unit (s := ⟨4, ![A, B, C, D]⟩) ![s₂, b₂, 0, 0] ![1, 1, n, D] inb) hs).squeeze
      ⟨2, ![n, D]⟩ hq).view.write Val g w Finset.univ)) := by
  intro s' b' r d k hs' hr hk
  exact (read_slotWindow_miss M s₂ b₂ inb hs hq g w d s' b' r (.inl (by omega))).trans (h s' b' r d k hs' hr hk)

/-- The rows `o`, …, `o + n - 1` of batch `b` of a three-dimensional buffer, read as a window. -/
theorem read_rows {R : ℕ} (M : Memref sig κ sp ⟨3, ![B, R, D]⟩ e) (b o : ℕ)
    (inb : ∀ a, (![b, o, 0] : Fin 3 → ℕ) a + (![1, n, D] : Fin 3 → ℕ) a ≤ (![B, R, D] : Fin 3 → ℕ) a)
    (hs) (hq : (⟨3, ![1, n, D]⟩ : Shape).Squeezes ⟨2, ![n, D]⟩) (g : M.view.ty.Contents Val)
    (x : Fin n) (d : Fin D) (b' : Fin B) (k : Fin R) (hb : b'.val = b) (hk : k.val = o + x.val) :
    ((M.slice (Rect.unit (s := ⟨3, ![B, R, D]⟩) ![b, o, 0] ![1, n, D] inb) hs).squeeze ⟨2, ![n, D]⟩ hq).view.read Val g (ix2 x d)
      = M.view.read Val g (ix3 b' k d) := by
  show M.view.read Val g ((Rect.unit (s := ⟨3, ![B, R, D]⟩) ![b, o, 0] ![1, n, D] inb).emb (Shape.reshapeEquiv hq.numel_eq (ix2 x d))) = _
  rw [reshapeEquiv_ix2_1ab]
  refine congrArg (M.view.read Val g) (funext fun a => Fin.ext ?_)
  match a with
  | ⟨0, _⟩ => show b + 1 * 0 = b'.val; omega
  | ⟨1, _⟩ => show o + 1 * x.val = k.val; omega
  | ⟨2, _⟩ => show 0 + 1 * d.val = d.val; omega

/-- Four copies, one per batch, bring the `n` rows from row `o` on of every batch into slot `s`. -/
theorem four_copies {R : ℕ} {sp' : Space} (M : Memref sig κ sp ⟨4, ![A, 4, C, D]⟩ e) (N : Memref sig κ sp' ⟨3, ![4, R, D]⟩ e) (s o : ℕ)
    (g : M.view.ty.Contents Val) (gc : N.view.ty.Contents Val)
    {i0 i1 i2 i3 j0 j1 j2 j3} {t0 t1 t2 t3 u0 u1 u2 u3} {hq : (⟨4, ![1, 1, n, D]⟩ : Shape).Squeezes ⟨2, ![n, D]⟩}
    {hq' : (⟨3, ![1, n, D]⟩ : Shape).Squeezes ⟨2, ![n, D]⟩} :
    SlotHolds (N.view.read Val gc) s o n (M.view.read Val
      (((M.slice (Rect.unit (s := ⟨4, ![A, 4, C, D]⟩) ![s, 3, 0, 0] ![1, 1, n, D] i3) t3).squeeze ⟨2, ![n, D]⟩ hq).view.write Val
        (((M.slice (Rect.unit (s := ⟨4, ![A, 4, C, D]⟩) ![s, 2, 0, 0] ![1, 1, n, D] i2) t2).squeeze ⟨2, ![n, D]⟩ hq).view.write Val
          (((M.slice (Rect.unit (s := ⟨4, ![A, 4, C, D]⟩) ![s, 1, 0, 0] ![1, 1, n, D] i1) t1).squeeze ⟨2, ![n, D]⟩ hq).view.write Val
            (((M.slice (Rect.unit (s := ⟨4, ![A, 4, C, D]⟩) ![s, 0, 0, 0] ![1, 1, n, D] i0) t0).squeeze ⟨2, ![n, D]⟩ hq).view.write Val g
              (((N.slice (Rect.unit (s := ⟨3, ![4, R, D]⟩) ![0, o, 0] ![1, n, D] j0) u0).squeeze ⟨2, ![n, D]⟩ hq').view.read Val gc) Finset.univ)
            (((N.slice (Rect.unit (s := ⟨3, ![4, R, D]⟩) ![1, o, 0] ![1, n, D] j1) u1).squeeze ⟨2, ![n, D]⟩ hq').view.read Val gc) Finset.univ)
          (((N.slice (Rect.unit (s := ⟨3, ![4, R, D]⟩) ![2, o, 0] ![1, n, D] j2) u2).squeeze ⟨2, ![n, D]⟩ hq').view.read Val gc) Finset.univ)
        (((N.slice (Rect.unit (s := ⟨3, ![4, R, D]⟩) ![3, o, 0] ![1, n, D] j3) u3).squeeze ⟨2, ![n, D]⟩ hq').view.read Val gc) Finset.univ)) :=
  SlotHoldsTo.done (((((slotHoldsTo_zero _ s o n _).copy i0 t0 hq _ (read_rows N 0 o j0 u0 hq' gc)).copy i1 t1 hq _
    (read_rows N 1 o j1 u1 hq' gc)).copy i2 t2 hq _ (read_rows N 2 o j2 u2 hq' gc)).copy i3 t3 hq _ (read_rows N 3 o j3 u3 hq' gc))

/-- Four copies into the other slot leave the chunk. -/
theorem SlotHolds.four_others {R m : ℕ} {M : Memref sig κ sp ⟨4, ![A, 4, C, D]⟩ e} {code : (⟨3, ![4, R, D]⟩ : Shape).Idx → Val e} {s o s₂ : ℕ}
    {g : M.view.ty.Contents Val} (h : SlotHolds code s o m (M.view.read Val g)) (hne : s ≠ s₂)
    {i0 i1 i2 i3} {t0 t1 t2 t3} {hq : (⟨4, ![1, 1, n, D]⟩ : Shape).Squeezes ⟨2, ![n, D]⟩} {w0 w1 w2 w3 : (⟨2, ![n, D]⟩ : Shape).Idx → Val e} :
    SlotHolds code s o m (M.view.read Val
      (((M.slice (Rect.unit (s := ⟨4, ![A, 4, C, D]⟩) ![s₂, 3, 0, 0] ![1, 1, n, D] i3) t3).squeeze ⟨2, ![n, D]⟩ hq).view.write Val
        (((M.slice (Rect.unit (s := ⟨4, ![A, 4, C, D]⟩) ![s₂, 2, 0, 0] ![1, 1, n, D] i2) t2).squeeze ⟨2, ![n, D]⟩ hq).view.write Val
          (((M.slice (Rect.unit (s := ⟨4, ![A, 4, C, D]⟩) ![s₂, 1, 0, 0] ![1, 1, n, D] i1) t1).squeeze ⟨2, ![n, D]⟩ hq).view.write Val
            (((M.slice (Rect.unit (s := ⟨4, ![A, 4, C, D]⟩) ![s₂, 0, 0, 0] ![1, 1, n, D] i0) t0).squeeze ⟨2, ![n, D]⟩ hq).view.write Val g
              w0 Finset.univ) w1 Finset.univ) w2 Finset.univ) w3 Finset.univ)) :=
  (((h.other i0 t0 hq w0 hne).other i1 t1 hq w1 hne).other i2 t2 hq w2 hne).other i3 t3 hq w3 hne

/-- One slot's first `n` rows, batches outermost, laid out rows outermost. -/
theorem chunk_transposed {α : Type} (X : (⟨4, ![1, B, n, D]⟩ : Shape).Idx → α)
    (h1 : (⟨4, ![1, B, n, D]⟩ : Shape).ShapeCasts ⟨3, ![B, n, D]⟩) (h2 : (⟨3, ![B, n, D]⟩ : Shape).Transposes [1, 0, 2] ⟨3, ![n, B, D]⟩)
    (h3 : (⟨3, ![n, B, D]⟩ : Shape).ShapeCasts ⟨4, ![1, n, B, D]⟩) (r : Fin n) (b : Fin B) (d : Fin D) :
    shapeCast ⟨4, ![1, n, B, D]⟩ (transpose ⟨3, ![n, B, D]⟩ [1, 0, 2] (shapeCast ⟨3, ![B, n, D]⟩ X h1) h2) h3 (ix4 0 r b d)
      = X (ix4 0 b r d) := by
  rw [shapeCast_abc_1abc_apply]
  refine (transpose_apply (s := ⟨3, ![B, n, D]⟩) _ _ _ (ix3 r b d) (ix3 b r d) fun a => ?_).trans ?_
  · match a with
    | ⟨0, _⟩ => rfl
    | ⟨1, _⟩ => rfl
    | ⟨2, _⟩ => rfl
  · rw [shapeCast_1abc_abc_apply]

/-- A slot's first `n` rows loaded from the staging buffer. -/
theorem load_slot (M : Memref sig κ sp ⟨4, ![A, B, C, D]⟩ e) (s : ℕ)
    (inb : ∀ a, (![s, 0, 0, 0] : Fin 4 → ℕ) a + (![1, B, n, D] : Fin 4 → ℕ) a ≤ (![A, B, C, D] : Fin 4 → ℕ) a)
    (g : M.view.ty.Contents Val) (b : Fin B) (r : Fin n) (d : Fin D) (s' : Fin A) (r' : Fin C) (hs : s'.val = s) (hr : r'.val = r.val) :
    M.view.readAt Val (Rect.unit (s := ⟨4, ![A, B, C, D]⟩) ![s, 0, 0, 0] ![1, B, n, D] inb).toLoadRect g (ix4 0 b r d)
      = M.view.read Val g (ix4 s' b r' d) := by
  show M.view.read Val g ((Rect.unit (s := ⟨4, ![A, B, C, D]⟩) ![s, 0, 0, 0] ![1, B, n, D] inb).emb (ix4 0 b r d)) = _
  refine congrArg (M.view.read Val g) (funext fun a => Fin.ext ?_)
  match a with
  | ⟨0, _⟩ => show s + 1 * 0 = s'.val; omega
  | ⟨1, _⟩ => show 0 + 1 * b.val = b.val; omega
  | ⟨2, _⟩ => show 0 + 1 * r.val = r'.val; omega
  | ⟨3, _⟩ => show 0 + 1 * d.val = d.val; omega

/-- The slot stored last, read whole as the source of a copy, is what was stored. -/
theorem read_stored_slot (M : Memref sig κ sp ⟨4, ![A, C, B, D]⟩ e) (s : ℕ)
    (inb : ∀ a, (![s, 0, 0, 0] : Fin 4 → ℕ) a + (![1, n, B, D] : Fin 4 → ℕ) a ≤ (![A, C, B, D] : Fin 4 → ℕ) a)
    (hs) (hq : (⟨4, ![1, n, B, D]⟩ : Shape).Squeezes ⟨3, ![n, B, D]⟩) (f : M.view.ty.Contents Val)
    (w : (⟨4, ![1, n, B, D]⟩ : Shape).Idx → Val e) (L : List (View.Piece Val ⟨4, ![A, C, B, D]⟩ e)) (r : Fin n) (b : Fin B) (d : Fin D) :
    ((M.slice (Rect.unit (s := ⟨4, ![A, C, B, D]⟩) ![s, 0, 0, 0] ![1, n, B, D] inb) hs).squeeze ⟨3, ![n, B, D]⟩ hq).view.read Val
      (M.view.writes Val f (⟨Rect.unit (s := ⟨4, ![A, C, B, D]⟩) ![s, 0, 0, 0] ![1, n, B, D] inb, w⟩ :: L)) (ix3 r b d) = w (ix4 0 r b d) := by
  show M.view.read Val (M.view.writes Val f (⟨Rect.unit (s := ⟨4, ![A, C, B, D]⟩) ![s, 0, 0, 0] ![1, n, B, D] inb, w⟩ :: L))
    ((Rect.unit (s := ⟨4, ![A, C, B, D]⟩) ![s, 0, 0, 0] ![1, n, B, D] inb).emb (Shape.reshapeEquiv hq.numel_eq (ix3 r b d))) = _
  rw [reshapeEquiv_ix3_1abc]
  exact View.read_writes_cons_emb M.view f (Rect.unit (s := ⟨4, ![A, C, B, D]⟩) ![s, 0, 0, 0] ![1, n, B, D] inb) w L (ix4 0 r b d)

/-- A chunk held by slot `s` of the staging buffer, loaded, laid out rows outermost, stored into slot `s` of the second buffer and
read there as the source of the copy to the result: entry `(r, b, d)` is row `o + r` of batch `b`. -/
theorem SlotHolds.sent {R A' C' : ℕ} {sp' : Space} {M : Memref sig κ sp ⟨4, ![A, B, C, D]⟩ e} {code : (⟨3, ![B, R, D]⟩ : Shape).Idx → Val e}
    {s o : ℕ} {g : M.view.ty.Contents Val} (h : SlotHolds code s o n (M.view.read Val g)) (hsA : s < A) (hn : n ≤ C)
    (inb : ∀ a, (![s, 0, 0, 0] : Fin 4 → ℕ) a + (![1, B, n, D] : Fin 4 → ℕ) a ≤ (![A, B, C, D] : Fin 4 → ℕ) a)
    (h1 : (⟨4, ![1, B, n, D]⟩ : Shape).ShapeCasts ⟨3, ![B, n, D]⟩) (h2 : (⟨3, ![B, n, D]⟩ : Shape).Transposes [1, 0, 2] ⟨3, ![n, B, D]⟩)
    (h3 : (⟨3, ![n, B, D]⟩ : Shape).ShapeCasts ⟨4, ![1, n, B, D]⟩)
    (N : Memref sig κ sp' ⟨4, ![A', C', B, D]⟩ e) (inb' : ∀ a, (![s, 0, 0, 0] : Fin 4 → ℕ) a + (![1, n, B, D] : Fin 4 → ℕ) a ≤ (![A', C', B, D] : Fin 4 → ℕ) a)
    (hs) (hq : (⟨4, ![1, n, B, D]⟩ : Shape).Squeezes ⟨3, ![n, B, D]⟩) (f : N.view.ty.Contents Val) (L : List (View.Piece Val ⟨4, ![A', C', B, D]⟩ e))
    (r : Fin n) (b : Fin B) (d : Fin D) (k : Fin R) (hk : k.val = o + r.val) :
    ((N.slice (Rect.unit (s := ⟨4, ![A', C', B, D]⟩) ![s, 0, 0, 0] ![1, n, B, D] inb') hs).squeeze ⟨3, ![n, B, D]⟩ hq).view.read Val
      (N.view.writes Val f (⟨Rect.unit (s := ⟨4, ![A', C', B, D]⟩) ![s, 0, 0, 0] ![1, n, B, D] inb',
        shapeCast ⟨4, ![1, n, B, D]⟩ (transpose ⟨3, ![n, B, D]⟩ [1, 0, 2] (shapeCast ⟨3, ![B, n, D]⟩
          (M.view.readAt Val (Rect.unit (s := ⟨4, ![A, B, C, D]⟩) ![s, 0, 0, 0] ![1, B, n, D] inb).toLoadRect g) h1) h2) h3⟩ :: L)) (ix3 r b d)
      = code (ix3 b k d) := by
  rw [read_stored_slot, chunk_transposed]
  exact (load_slot M s inb g b r d ⟨s, hsA⟩ ⟨r.val, by omega⟩ rfl rfl).trans (h ⟨s, hsA⟩ b _ d k rfl r.isLt hk)

/-! ## The result, band of rows after band of rows -/

/-- Every row below `hi` of what the list of stores `L` leaves is `G`'s. -/
def RowsBelow {R : ℕ} (G : (⟨3, ![R, B, D]⟩ : Shape).Idx → Val e) (v : View sig κ sp ⟨3, ![R, B, D]⟩ e) (f : v.ty.Contents Val)
    (L : List (View.Piece Val ⟨3, ![R, B, D]⟩ e)) (hi : ℕ) : Prop :=
  ∀ (r : Fin R) (b : Fin B) (d : Fin D), r.val < hi → v.read Val (v.writes Val f L) (ix3 r b d) = G (ix3 r b d)

/-- Before any store nothing is asked. -/
theorem rowsBelow_zero {R : ℕ} (G : (⟨3, ![R, B, D]⟩ : Shape).Idx → Val e) (v : View sig κ sp ⟨3, ![R, B, D]⟩ e) (f : v.ty.Contents Val)
    (L : List (View.Piece Val ⟨3, ![R, B, D]⟩ e)) : RowsBelow G v f L 0 :=
  fun _ _ _ h => absurd h (Nat.not_lt_zero _)

/-- One more band: the `n` rows from `hi` on. -/
theorem RowsBelow.band {R : ℕ} {G : (⟨3, ![R, B, D]⟩ : Shape).Idx → Val e} {v : View sig κ sp ⟨3, ![R, B, D]⟩ e} {f : v.ty.Contents Val}
    {L : List (View.Piece Val ⟨3, ![R, B, D]⟩ e)} {hi : ℕ} (h : RowsBelow G v f L hi)
    (inb : ∀ a, (![hi, 0, 0] : Fin 3 → ℕ) a + (![n, B, D] : Fin 3 → ℕ) a ≤ (![R, B, D] : Fin 3 → ℕ) a)
    (w : (⟨3, ![n, B, D]⟩ : Shape).Idx → Val e)
    (hw : ∀ (x : Fin n) (b : Fin B) (d : Fin D) (r : Fin R), r.val = hi + x.val → w (ix3 x b d) = G (ix3 r b d)) {hi' : ℕ} (hhi : hi' = hi + n) :
    RowsBelow G v f (⟨Rect.unit (s := ⟨3, ![R, B, D]⟩) ![hi, 0, 0] ![n, B, D] inb, w⟩ :: L) hi' := by
  intro r b d hr
  by_cases hlt : r.val < hi
  · exact (View.read_writes_cons_unit_of_not_mem v f inb w L (ix3 r b d) rfl (0 : Fin 3) (.inl hlt)).trans (h r b d hlt)
  · refine (View.read_writes_cons_unit_of_mem v f inb w L (ix3 r b d) (ix3 (⟨r.val - hi, by omega⟩ : Fin n) b d) rfl fun a => ?_).trans
      (hw ⟨r.val - hi, by omega⟩ b d r (by show r.val = hi + (r.val - hi); omega))
    match a with
    | ⟨0, _⟩ => show r.val = hi + (r.val - hi); omega
    | ⟨1, _⟩ => show b.val = 0 + b.val; omega
    | ⟨2, _⟩ => show d.val = 0 + d.val; omega

/-- Once every row is stored, the whole array is `G`. -/
theorem RowsBelow.all {R : ℕ} {G : (⟨3, ![R, B, D]⟩ : Shape).Idx → Val e} {v : View sig κ sp ⟨3, ![R, B, D]⟩ e} {f : v.ty.Contents Val}
    {L : List (View.Piece Val ⟨3, ![R, B, D]⟩ e)} (h : RowsBelow G v f L R) : v.read Val (v.writes Val f L) = G := by
  funext y
  have hy : y = ix3 (n0 := R) (n1 := B) (n2 := D) (y (0 : Fin 3)) (y (1 : Fin 3)) (y (2 : Fin 3)) := funext fun a => match a with
    | ⟨0, _⟩ => rfl
    | ⟨1, _⟩ => rfl
    | ⟨2, _⟩ => rfl
  rw [hy]
  exact h (y (0 : Fin 3)) (y (1 : Fin 3)) (y (2 : Fin 3)) (y (0 : Fin 3)).isLt

/-- One row on top of `R'` rows, rows outermost: row 0 is `row` in every batch, row `r + 1` of batch `b` is row `r` of `code`'s
    batch `b`. -/
def stacked {α : Type} {R R' : ℕ} (hR : R = R' + 1) (row : Fin D → α) (code : (⟨3, ![B, R', D]⟩ : Shape).Idx → α) :
    (⟨3, ![R, B, D]⟩ : Shape).Idx → α :=
  fun y => if h : (y (0 : Fin 3)).val = 0 then row (y (2 : Fin 3))
    else code (ix3 (y (1 : Fin 3)) ⟨(y (0 : Fin 3)).val - 1, by
      have hlt : (y (0 : Fin 3)).val < R := (y (0 : Fin 3)).isLt
      omega⟩ (y (2 : Fin 3)))

/-- Row 0 of the stack. -/
theorem stacked_top {α : Type} {R R' : ℕ} (hR : R = R' + 1) (row : Fin D → α) (code : (⟨3, ![B, R', D]⟩ : Shape).Idx → α)
    (r : Fin R) (b : Fin B) (d : Fin D) (h : r.val = 0) : stacked hR row code (ix3 r b d) = row d :=
  dif_pos h

/-- The rows of the stack below row 0. -/
theorem stacked_below {α : Type} {R R' : ℕ} (hR : R = R' + 1) (row : Fin D → α) (code : (⟨3, ![B, R', D]⟩ : Shape).Idx → α)
    (r : Fin R) (b : Fin B) (d : Fin D) (k : Fin R') (h : r.val = k.val + 1) : stacked hR row code (ix3 r b d) = code (ix3 b k d) :=
  (dif_neg (show ¬ r.val = 0 by omega)).trans (congrArg code (funext fun a => Fin.ext (match a with
    | ⟨0, _⟩ => rfl
    | ⟨1, _⟩ => (show r.val - 1 = k.val by omega)
    | ⟨2, _⟩ => rfl)))

end Cert.Hand

end
-- ==== Proof.IdealRun.lean ====
/-
  The kernel's body, run once.

  The body reads a word of `lang_idx` and the row of the table it names, lays that row out for the four batches and starts
  a copy of it to row 0 of the result. Then it brings `code` in six chunks of rows through a two-slot buffer: while one
  chunk is laid out rows outermost and sent to its rows of the result, the copies that bring the next one are under way,
  four on one cell at a time. `kernelRun` runs it from its start to its end, whatever `code` and the table hold, and says
  what the result then holds.
-/
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Batch
public import Idealize.ShloMosaic.Lib.Tactic
public import proofs.«01_k».proof.Proof.Windows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Hand
open Idealize.ShloMosaic.ValueIdx

variable {F : FTy → Type} [FloatOps F]

local notation "𝕄" => MT nD τ sig Unit (Elt F) ℕ (Pipeline.UD sig nD τ) ℕ

/-- The two buffers that chunks come into. -/
abbrev inB : Memref sig .tc .vmem S2x4x1024x768 .f32 := Memref.whole cc0_scratch0
/-- The two buffers that chunks go out of. -/
abbrev outB : Memref sig .tc .vmem S2x1024x4x768 .f32 := Memref.whole cc0_scratch1
/-- The buffer that the top row goes out of. -/
abbrev slabB : Memref sig .tc .vmem S1x4x768 .f32 := Memref.whole cc0_scratch2
/-- The array of embeddings. -/
abbrev codeM : Memref sig .tc .hbm S4x4096x768 .f32 := Memref.whole main_arg0
/-- The array that the body builds. -/
abbrev outM : Memref sig .tc .hbm S4097x4x768 .f32 := Memref.whole main_v0

/-- The contents of the buffer a memref names on core `c`, and that buffer held whole. -/
abbrev MBuf (c : Dev nD) {sp : Space} {S : Shape} {e : EltTy} (M : Memref sig .tc sp S e) : Type := Buf (Elt F) (M.view.loc (c : Thread nD τ))
/-- The whole of `M`'s buffer on core `c`, holding `f`. -/
abbrev whole (c : Dev nD) {sp : Space} {S : Shape} {e : EltTy} (M : Memref sig .tc sp S e) (f : MBuf (F := F) c M) : sProp 𝕄 :=
  M.view.loc (c : Thread nD τ) ↦{fullShare} f

/-- A buffer held at some contents is held at equal contents. -/
theorem whole_of_eq (c : Dev nD) {sp : Space} {S : Shape} {e : EltTy} (M : Memref sig .tc sp S e) {f g : MBuf (F := F) c M} (h : f = g) :
    whole c M f ⊢ whole c M g := h ▸ .rfl

/-- The word the body reads from the staged `lang_idx`: the row of the table it takes. -/
def word (c : Dev nD) (arg0 : Memref sig .tc .smem S1 .i32) (x0 : MBuf (F := F) c arg0) : BitVec 32 :=
  arg0.view.readAt (Elt F) (Rect.unit (s := S1) ![0] S1.size inb_S1_S1_0).toLoadRect x0 (Shape.Idx.first (by decide))

/-- A word that passes the body's side condition names a row of the table. -/
theorem row_lt {v : BitVec 32} (h : k0_chk1 v) : k0_off1 v (0 : Fin 2) < 21 := by
  have h0 : k0_off1 v (0 : Fin 2) + 1 ≤ 21 := h (0 : Fin 2)
  omega

/-- The result before its last transposition: the row of the table `tab` that `w` names in front of `code`, rows outermost. -/
def result (c : Dev nD) (w : BitVec 32) (tab : S21x768.Idx → Elt F .f32) (code : MBuf (F := F) c codeM) (h : k0_chk1 w) : MBuf (F := F) c outM :=
  stacked (α := Elt F .f32) (R := 4097) (R' := 4096) (B := 4) (D := 768) rfl (fun d => tab (ix2 ⟨k0_off1 w (0 : Fin 2), row_lt h⟩ d)) code

/-- What the body leaves in `main_v0`, off the buffers it is called on. -/
def built (c : Dev nD) (arg0 : Memref sig .tc .smem S1 .i32) (arg1 : Memref sig .tc .vmem S21x768 .f32)
    (x0 : MBuf (F := F) c arg0) (x1 : MBuf (F := F) c arg1) (code : MBuf (F := F) c codeM) (hchk : k0_chk1 (word c arg0 x0)) :
    MBuf (F := F) c outM :=
  result c (word c arg0 x0) (arg1.view.read (Elt F) x1) code hchk

/-- One row of the table, repeated for the four batches. -/
theorem slab_apply {α : Type} (X : S1x768.Idx → α) (h1 : S1x768.ShapeCasts S768) (h2 : S768.ShapeCasts S1x1x768)
    (h3 : S1x1x768.ShapeCasts S1x1x768) (h4 : S1x1x768.Broadcasts S1x4x768) (h5 : S1x4x768.ShapeCasts S1x4x768)
    (x : Fin 1) (b : Fin 4) (d : Fin 768) :
    shapeCast S1x4x768 (broadcastTo S1x4x768 (shapeCast S1x1x768 (shapeCast S1x1x768 (shapeCast S768 X h1) h2) h3) h4) h5 (ix3 x b d)
      = X (ix2 (0 : Fin 1) d) := by
  rw [shapeCast_self, shapeCast_self]
  refine (broadcastTo_apply _ _ (ix3 x b d) (ix3 (0 : Fin 1) (0 : Fin 1) d) fun a => ?_).trans ?_
  · match a with
    | ⟨0, _⟩ => rfl
    | ⟨1, _⟩ => rfl
    | ⟨2, _⟩ => rfl
  · refine (shapeCast_apply _ _ (ix3 (0 : Fin 1) (0 : Fin 1) d) (ix1 d) ?_).trans (shapeCast_apply _ _ (ix1 d) (ix2 (0 : Fin 1) d) ?_)
    · rw [Shape.rowMajor_val_one, Shape.rowMajor_val_three]
      show d.val = (0 * 1 + 0) * 768 + d.val
      omega
    · rw [Shape.rowMajor_val_one, Shape.rowMajor_val_two]
      show 0 * 768 + d.val = d.val
      omega

/-- A chunk the staging buffer holds in slot `s` reaches the rows of the result that are its own: row `o + x` of `code` is row
`o + 1 + x` of what the body builds. -/
theorem chunk_arrives {n s o : ℕ} {row : Fin 768 → Elt F .f32} {c : Dev nD} {g : MBuf (F := F) c inB} {code : MBuf (F := F) c codeM}
    (h : SlotHolds (A := 2) (C := 1024) (codeM.view.read (Elt F) code) s o n (inB.view.read (Elt F) g)) (hs : s < 2) (hn : n ≤ 1024) (ho : o + n ≤ 4096)
    {i1 h1 h2 h3 i2 t hq} {f : MBuf (F := F) c outB} {L : List (View.Piece (Elt F) S2x1024x4x768 .f32)} (x : Fin n) (b : Fin 4) (d : Fin 768)
    (r : Fin 4097) (hr : r.val = o + 1 + x.val) :
    ((outB.slice (Rect.unit (s := S2x1024x4x768) ![s, 0, 0, 0] ![1, n, 4, 768] i2) t).squeeze ⟨3, ![n, 4, 768]⟩ hq).view.read (Elt F)
      (outB.view.writes (Elt F) f (⟨Rect.unit (s := S2x1024x4x768) ![s, 0, 0, 0] ![1, n, 4, 768] i2,
        shapeCast ⟨4, ![1, n, 4, 768]⟩ (transpose ⟨3, ![n, 4, 768]⟩ [1, 0, 2] (shapeCast ⟨3, ![4, n, 768]⟩
          (inB.view.readAt (Elt F) (Rect.unit (s := S2x4x1024x768) ![s, 0, 0, 0] ![1, 4, n, 768] i1).toLoadRect g) h1) h2) h3⟩ :: L)) (ix3 x b d)
      = stacked (α := Elt F .f32) (R := 4097) (R' := 4096) (B := 4) (D := 768) rfl row code (ix3 r b d) := by
  have hk : o + x.val < 4096 := by have := x.isLt; omega
  exact (h.sent hs hn i1 h1 h2 h3 outB i2 t hq f L x b d ⟨o + x.val, hk⟩ rfl).trans
    (stacked_below rfl row code r b d ⟨o + x.val, hk⟩ (by show r.val = o + x.val + 1; omega)).symm

/-- Contents every row of which is `G`'s are `G`. -/
theorem all_rows {c : Dev nD} {G f : MBuf (F := F) c outM} {L : List (View.Piece (Elt F) S4097x4x768 .f32)}
    (h : RowsBelow (R := 4097) (B := 4) (D := 768) (Val := Elt F) G outM.view f L 4097) : outM.view.writes (Elt F) f L = G :=
  RowsBelow.all (v := outM.view) h

/-- The row the body reads from the table and repeats for the batches reaches row 0 of the result. -/
theorem slab_arrives (c : Dev nD) (arg0 : Memref sig .tc .smem S1 .i32) (arg1 : Memref sig .tc .vmem S21x768 .f32)
    (x0 : MBuf (F := F) c arg0) (x1 : MBuf (F := F) c arg1) (code : MBuf (F := F) c codeM) (hchk : k0_chk1 (word c arg0 x0))
    (f : MBuf (F := F) c slabB) {i1 i2 h1 h2 h3 h4 h5} (x : Fin 1) (b : Fin 4) (d : Fin 768) (r : Fin 4097) (hr : r.val = 0) :
    slabB.view.read (Elt F) (slabB.view.writes (Elt F) f [⟨Rect.unit (s := S1x4x768) ![0, 0, 0] S1x4x768.size i1,
        shapeCast S1x4x768 (broadcastTo S1x4x768 (shapeCast S1x1x768 (shapeCast S1x1x768 (shapeCast S768
          (arg1.view.readAt (Elt F) (Rect.unit (s := S21x768) (k0_off1 (word c arg0 x0)) S1x768.size i2).toLoadRect x1) h1) h2) h3) h4) h5⟩]) (ix3 x b d)
      = built c arg0 arg1 x0 x1 code hchk (ix3 r b d) := by
  have hx : x = 0 := Subsingleton.elim _ _
  subst hx
  unfold built result
  refine (View.read_writes_cons_unit_of_mem slabB.view f i1 _ [] (ix3 (0 : Fin 1) b d) (ix3 (0 : Fin 1) b d) rfl fun a => ?_).trans
    ((slab_apply _ h1 h2 h3 h4 h5 0 b d).trans (Eq.trans ?_ (stacked_top rfl _ code r b d hr).symm))
  · match a with
    | ⟨0, _⟩ => rfl
    | ⟨1, _⟩ => show b.val = 0 + b.val; omega
    | ⟨2, _⟩ => show d.val = 0 + d.val; omega
  · show arg1.view.read (Elt F) x1 ((Rect.unit (s := S21x768) (k0_off1 (word c arg0 x0)) S1x768.size i2).emb (ix2 (0 : Fin 1) d)) = _
    refine congrArg (arg1.view.read (Elt F) x1) (funext fun a => Fin.ext ?_)
    match a with
    | ⟨0, _⟩ => show k0_off1 (word c arg0 x0) (0 : Fin 2) + 1 * 0 = _; rfl
    | ⟨1, _⟩ => show 0 + 1 * d.val = d.val; omega

/-- What the body needs and gives back besides the array it writes: the two staged operands, the scratch buffers at any contents,
the five DMA cells of its own at zero, and `code`. -/
def around (c : Dev nD) (arg0 : Memref sig .tc .smem S1 .i32) (arg1 : Memref sig .tc .vmem S21x768 .f32)
    (x0 : MBuf (F := F) c arg0) (x1 : MBuf (F := F) c arg1) (code : MBuf (F := F) c codeM) : sProp 𝕄 :=
  iprop((arg0.view.loc (c : Thread nD τ) ↦[arg0.view.set]{fullShare} x0) ∗ (arg1.view.loc (c : Thread nD τ) ↦[arg1.view.set]{fullShare} x1)
    ∗ (∃ f, whole c inB f) ∗ (∃ f, whole c outB f) ∗ (∃ f, whole c slabB f)
    ∗ semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0
    ∗ semVal ((c : Thread nD τ), SemLoc.dma 6) 0 ∗ whole c codeM code)

set_option sl_exec.dmaWindow true in
set_option sl_exec.dmaWindowLent true in
set_option maxHeartbeats 4000000 in
/-- The body, run once: given a word that names a row of the table, it ends with everything it was given back and `main_v0` holding
what it builds. The two parameters record, for each of the two cells that carry four equal copies at a time, that they do. -/
theorem kernelRun (c : Dev nD) (arg0 : Memref sig .tc .smem S1 .i32) (harg0 : arg0.IsWhole)
    (arg1 : Memref sig .tc .vmem S21x768 .f32) (harg1 : arg1.IsWhole)
    (x0 : MBuf (F := F) c arg0) (x1 : MBuf (F := F) c arg1) (code : MBuf (F := F) c codeM)
    (hchk : k0_chk1 (word c arg0 x0))
    (_p0 : Transfers.BatchOf (c : Thread nD τ) (SemLoc.dma (sig := sig) 2) 4 (windows := true))
    (_p1 : Transfers.BatchOf (c : Thread nD τ) (SemLoc.dma (sig := sig) 3) 4 (windows := true))
    (W : Waits sig Unit) (K : PUnit → sProp 𝕄) :
    iprop(around c arg0 arg1 x0 x1 code ∗ (∃ f, whole c outM f) ∗ owes (c : Thread nD τ) 0 W
        ∗ (iprop(around c arg0 arg1 x0 x1 code ∗ whole c outM (built c arg0 arg1 x0 x1 code hchk) ∗ ∃ W', owes (c : Thread nD τ) 0 W') -∗ K ⟨⟩))
      ⊢ wp frame (wpE (defs₀ (F := F)) Variants.none (c : Thread nD τ) none) Set.univ
          (cc0_body arg0 harg0 arg1 harg1 codeM (Memref.isWhole_whole _) outM (Memref.isWhole_whole _) inB (Memref.isWhole_whole _)
            outB (Memref.isWhole_whole _) slabB (Memref.isWhole_whole _) cc0_scratch3 cc0_scratch4 cc0_scratch5) K := by
  unfold around
  rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  iintro ⟨⟨H0, H1, ⟨%fin, Hin⟩, ⟨%fout, Hout⟩, ⟨%fslab, Hslab⟩, Hq2, Hq3, Hq4, Hq5, Hq6, Hc⟩, ⟨%fr, Hr⟩, HW, Hk⟩
  sl_exec (disch := exact hchk)
  sl_exec
  rw [wp_ret]; imodintro
  iapply Hk
  isplitl [H0 H1 Hin Hout Hslab Hq2 Hq3 Hq4 Hq5 Hq6 Hc]
  · isplitl [H0]; · iexact H0
    isplitl [H1]; · iexact H1
    isplitl [Hin]; · iexists _; iexact Hin
    isplitl [Hout]; · iexists _; iexact Hout
    isplitl [Hslab]; · iexists _; iexact Hslab
    isplitl [Hq2]; · iexact Hq2
    isplitl [Hq3]; · iexact Hq3
    isplitl [Hq4]; · iexact Hq4
    isplitl [Hq5]; · iexact Hq5
    isplitl [Hq6]; · iexact Hq6
    iexact Hc
  · isplitl [Hr]
    · iapply (whole_of_eq c outM ?hval) $$ Hr
      case hval =>
        unfold built result
        refine all_rows ?_
        refine RowsBelow.band (n := 256) (hi := 3841) ?_ _ _ (chunk_arrives (four_copies inB codeM 1 3840 _ code) (by decide) (by decide) (by decide)) rfl
        refine RowsBelow.band (n := 512) (hi := 3329) ?_ _ _ (chunk_arrives ((four_copies inB codeM 0 3328 _ code).four_others (by decide)) (by decide) (by decide) (by decide)) rfl
        refine RowsBelow.band (n := 1024) (hi := 2305) ?_ _ _ (chunk_arrives ((four_copies inB codeM 1 2304 _ code).four_others (by decide)) (by decide) (by decide) (by decide)) rfl
        refine RowsBelow.band (n := 1024) (hi := 1281) ?_ _ _ (chunk_arrives ((four_copies inB codeM 0 1280 _ code).four_others (by decide)) (by decide) (by decide) (by decide)) rfl
        refine RowsBelow.band (n := 1024) (hi := 257) ?_ _ _ (chunk_arrives ((four_copies inB codeM 1 256 _ code).four_others (by decide)) (by decide) (by decide) (by decide)) rfl
        refine RowsBelow.band (n := 256) (hi := 1) ?_ _ _ (chunk_arrives ((four_copies inB codeM 0 0 _ code).four_others (by decide)) (by decide) (by decide) (by decide)) rfl
        refine RowsBelow.band (n := 1) (hi := 0) (rowsBelow_zero _ _ _ _) _ _ (fun x b d r hr => ?_) rfl
        exact slab_arrives c arg0 arg1 x0 x1 code hchk _ x b d r (by omega)
    · iexists _; iexact HW

end Cert.KernelIdeal.Hand

end
-- ==== Proof.IdealFrame.lean ====
/-
  The program run whole.

  The one region is a single grid point: the pipeline stages `lang_idx` and the table, the body (IdealRun.lean) reads
  `code` and writes `main_v0` by copies of its own, and one line after the region transposes `main_v0` into the result.
  Given words of `lang_idx` that name rows of the table, the program ends with its arguments as they were, every counter at
  zero, and the result the transposition of what the body builds.
-/
module

public import proofs.«01_k».proof.Proof.IdealRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Hand
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the program is given -/

/-- The word of `lang_idx` on core `c`. -/
def lang (c : Dev nD) : BitVec 32 := m ((c : Thread nD τ).loc main_arg2) (ix1 (0 : Fin 1))
/-- The table on core `c`. -/
def table (c : Dev nD) : S21x768.Idx → Elt F .f32 := m ((c : Thread nD τ).loc main_arg1)

variable (hw : ∀ c, k0_chk1 (lang m c))

/-- What the body builds on core `c`, from the arguments. -/
def stack (c : Dev nD) : Buf (Elt F) ((c : Thread nD τ).loc main_v0) := result c (lang m c) (table m c) (V m c main_arg0) (hw c)

/-- The buffers after the region: `main_v0` built, the others as the region finds them. -/
def G (c : Dev nD) (b : Ref sig .tc) : Buf (Elt F) ((c : Thread nD τ).loc b) := Function.update (V m c) main_v0 (stack m hw c) b

/-- After the region `main_v0` holds what the body builds. -/
theorem G_main_v0 (c : Dev nD) : G m hw c main_v0 = stack m hw c := Function.update_self ..

/-- A one-element array has one index. -/
theorem one_index (i j : S1.Idx) : i = j := funext fun a => match a with
  | ⟨0, _⟩ => Subsingleton.elim (α := Fin 1) _ _

/-- The window of `lang_idx` is the whole array. -/
theorem iblk_lang (c : Dev nD) (t : Fin cfg0.N) : iblk m c 0 t (ix1 (0 : Fin 1)) = lang m c := by
  rw [fin_N0 t]
  exact congrArg (m ((c : Thread nD τ).loc main_arg2)) (one_index _ _)

/-- The window of the table is the whole array. -/
theorem iblk_table (c : Dev nD) (t : Fin cfg0.N) : iblk m c 1 t = table m c := by
  rw [fin_N0 t]
  funext y
  refine congrArg (m ((c : Thread nD τ).loc main_arg1)) (funext fun a => Fin.ext ?_)
  match a with
  | ⟨0, _⟩ => show 0 + 1 * (y (0 : Fin 2)).val = (y (0 : Fin 2)).val; omega
  | ⟨1, _⟩ => show 0 + 1 * (y (1 : Fin 2)).val = (y (1 : Fin 2)).val; omega

/-- The word the body reads is the first of what the staging buffer reads. -/
theorem word_eq (c : Dev nD) (arg0 : Memref sig .tc .smem S1 .i32) (x0 : MBuf (F := F) c arg0) :
    word c arg0 x0 = arg0.view.read (Elt F) x0 (ix1 (0 : Fin 1)) :=
  congrArg (arg0.view.read (Elt F) x0) (one_index _ _)

/-! ## The cells and buffers of the body's own -/

/-- The five counters of the body's own copies: two for chunks coming in, two for chunks going out, one for the top row. -/
abbrev osem0 : Fin 5 → SemLoc sig := ![.dma 2, .dma 3, .dma 4, .dma 5, .dma 6]
/-- These counters are distinct, and none is the staging's. -/
theorem ownSemFacts0 : Pipeline.OwnSemFacts spec0 osem0 := by decide
/-- The array the body only reads with copies of its own. -/
abbrev H0 : Finset (Ref sig .tc) := {main_arg0}
/-- The array the body writes with copies of its own. -/
abbrev R0 : Finset (Ref sig .tc) := {main_v0}
/-- The array read is none of the staged ones. -/
theorem H0_sub : H0 ⊆ Pipeline.restRefs sig spec0 := by decide
/-- Nor is the array written, which is not the array read either. -/
theorem R0_sub : R0 ⊆ Pipeline.restRefs sig spec0 \ H0 := by decide

/-- The five counters, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0
        ∗ semVal ((c : Thread nD τ), SemLoc.dma 5) 0 ∗ semVal ((c : Thread nD τ), SemLoc.dma 6) 0) := by
  rw [Pipeline.ownSems0_eq_of_list c osem0 [0, 1, 2, 3, 4] (by decide) (by decide)]; rfl

/-- The invariant of the region, buffer by buffer and cell by cell. -/
theorem Phi_eq (c : Dev nD) (V G : (c : Dev nD) → (b : Ref sig .tc) → Buf (Elt F) ((c : Thread nD τ).loc b)) :
    (Pipeline.ΦDRV osem0 spec0 H0 R0 V G c : sProp 𝕄)
      = iprop(((∃ f, whole c inB f) ∗ (∃ f, whole c outB f) ∗ (∃ f, whole c slabB f))
        ∗ (semVal ((c : Thread nD τ), SemLoc.dma 2) 0 ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0)
        ∗ whole c codeM (V c main_arg0) ∗ whole c outM (G c main_v0)) := by
  unfold Pipeline.ΦDRV
  rw [scopedRest0_eq, ownSems00_eq, BI.bigSep_singleton, BI.bigSep_singleton]

/-! ## The proof data and the body obligation -/

/-- The proof data of the one pipeline on core `c`: the arrays as the region finds them, each staged block left as it was, and
`main_v0` as the region finds it before the one point and built after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRV osem0 spec0 H0 R0 (V m) (V m) c else Pipeline.ΦDRV osem0 spec0 H0 R0 (V m) (G m hw) c
  q _ := fullShare
  owed _ := 0

/-- Before the body the staging buffer of `lang_idx` holds its block. -/
theorem before_lang (c : Dev nD) (t : Fin cfg0.N) (d) : (dats m hw 0 c).before 0 t d = iblk m c 0 t :=
  ((dats m hw 0 c).before_in_eq_fetched 0 rfl (fun _ => rfl) (fun _ _ _ => rfl) (fun _ => rfl) t d).trans rfl

/-- Before the body the staging buffer of the table holds its block. -/
theorem before_table (c : Dev nD) (t : Fin cfg0.N) (d) : (dats m hw 0 c).before 1 t d = iblk m c 1 t :=
  ((dats m hw 0 c).before_in_eq_fetched 1 rfl (fun _ => rfl) (fun _ _ _ => rfl) (fun _ => rfl) t d).trans rfl

/-- The invariant before a point: `main_v0` as the region finds it. -/
theorem Phi_before (c : Dev nD) (t : Fin cfg0.N) :
    (dats m hw 0 c).Φ t.castSucc = Pipeline.ΦDRV osem0 spec0 H0 R0 (V m) (V m) c := if_pos (by rw [fin_N0 t]; rfl)

/-- The invariant after a point: `main_v0` built. -/
theorem Phi_after (c : Dev nD) (t : Fin cfg0.N) :
    (dats m hw 0 c).Φ t.succ = Pipeline.ΦDRV osem0 spec0 H0 R0 (V m) (G m hw) c :=
  if_neg (t := Pipeline.ΦDRV osem0 spec0 H0 R0 (V m) (V m) c) (show t.succ.val ≠ 0 from Nat.succ_ne_zero t.val)

/-- What the body is given at a point. -/
def bodyPre (c : Dev nD) (t : Fin cfg0.N) : sProp 𝕄 :=
  iprop((dats m hw 0 c).Φ t.castSucc ∗ (dats m hw 0 c).owesAt () t.castSucc
    ∗ (∃ d, owns (c : Thread nD τ) (win0_0.stage (cfg0.slots t 0)) fullShare ((dats m hw 0 c).before 0 t d))
    ∗ (∃ d, owns (c : Thread nD τ) (win0_1.stage (cfg0.slots t 1)) fullShare ((dats m hw 0 c).before 1 t d)))
/-- What the body gives back at a point. -/
def bodyPost (c : Dev nD) (t : Fin cfg0.N) : sProp 𝕄 :=
  iprop((dats m hw 0 c).Φ t.succ ∗ (dats m hw 0 c).owesAt () t.succ
    ∗ owns (c : Thread nD τ) (win0_0.stage (cfg0.slots t 0)) fullShare ((dats m hw 0 c).after 0 t)
    ∗ owns (c : Thread nD τ) (win0_1.stage (cfg0.slots t 1)) fullShare ((dats m hw 0 c).after 1 t))

/-- What the body builds depends on the word alone, not on the proof that it passes the check. -/
theorem result_congr (c : Dev nD) {w w' : BitVec 32} (e : w = w') (tab : S21x768.Idx → Elt F .f32) (code : S4x4096x768.Idx → Elt F .f32)
    (h : k0_chk1 w) (h' : k0_chk1 w') : result c w tab code h = result c w' tab code h' := by subst e; rfl

/-- What the body leaves, off the staging buffers, is what it builds from the arguments. -/
theorem built_eq (c : Dev nD) (t : Fin cfg0.N) {arg0 : Memref sig .tc .smem S1 .i32} {arg1 : Memref sig .tc .vmem S21x768 .f32}
    {x0 : MBuf (F := F) c arg0} {x1 : MBuf (F := F) c arg1} (h0 : arg0.view.read (Elt F) x0 = iblk m c 0 t)
    (h1 : arg1.view.read (Elt F) x1 = iblk m c 1 t) :
    ∃ h : k0_chk1 (word c arg0 x0), built c arg0 arg1 x0 x1 (V m c main_arg0) h = G m hw c main_v0 := by
  have e : word c arg0 x0 = lang m c := (word_eq c arg0 x0).trans ((congrFun h0 _).trans (iblk_lang m c t))
  have e' : arg1.view.read (Elt F) x1 = table m c := h1.trans (iblk_table m c t)
  refine ⟨e ▸ hw c, ?_⟩
  rw [G_main_v0]
  unfold built stack
  rw [e']
  exact result_congr c e ..

set_option maxHeartbeats 2000000 in
/-- The body, run at a point on what it is given, gives back `main_v0` built and all else as it was. -/
theorem sound_body (c : Dev nD) (t : Fin cfg0.N) :
    bodyPre m hw c t ⊢ wp frame (wpE (defs₀ (F := F)) Variants.none c none) Set.univ (bodyAt0 t) (fun _ => bodyPost m hw c t) := by
  unfold bodyPre bodyPost bodyAt0
  rw [Phi_after, Phi_before, Phi_eq, Phi_eq]
  unfold Dat.owesAt Pipeline.owesWithin
  rw [show (dats m hw 0 c).owed t.castSucc = 0 from rfl, show (dats m hw 0 c).owed t.succ = 0 from rfl,
    show (dats m hw 0 c).after 0 t = iblk m c 0 t from rfl, show (dats m hw 0 c).after 1 t = iblk m c 1 t from rfl]
  simp only [before_lang, before_table]
  unfold owns
  iintro ⟨⟨⟨Hin, Hout, Hslab⟩, ⟨Hq2, Hq3, Hq4, Hq5, Hq6⟩, Hc, Hr⟩, ⟨%W, -, HW⟩, ⟨%d0, %x0, %e0, H0⟩, ⟨%d1, %x1, %e1, H1⟩⟩
  obtain ⟨hchk, hb⟩ := built_eq m hw c t e0 e1
  iapply (kernelRun c _ _ _ _ x0 x1 (V m c main_arg0) hchk ⟨⟩ ⟨⟩ W _)
  rw [hb]
  unfold around
  isplitl [H0 H1 Hin Hout Hslab Hq2 Hq3 Hq4 Hq5 Hq6 Hc]
  · isplitl [H0]; · iexact H0
    isplitl [H1]; · iexact H1
    isplitl [Hin]; · iexact Hin
    isplitl [Hout]; · iexact Hout
    isplitl [Hslab]; · iexact Hslab
    isplitl [Hq2]; · iexact Hq2
    isplitl [Hq3]; · iexact Hq3
    isplitl [Hq4]; · iexact Hq4
    isplitl [Hq5]; · iexact Hq5
    isplitl [Hq6]; · iexact Hq6
    iexact Hc
  isplitl [Hr]; · iexists _; iexact Hr
  isplitl [HW]; · iexact HW
  iintro ⟨⟨H0, H1, Hin, Hout, Hslab, Hq2, Hq3, Hq4, Hq5, Hq6, Hc⟩, Hr, ⟨%W', HW'⟩⟩
  isplitl [Hin Hout Hslab Hq2 Hq3 Hq4 Hq5 Hq6 Hc Hr]
  · isplitl [Hin Hout Hslab]
    · isplitl [Hin]; · iexact Hin
      isplitl [Hout]; · iexact Hout
      iexact Hslab
    isplitl [Hq2 Hq3 Hq4 Hq5 Hq6]
    · isplitl [Hq2]; · iexact Hq2
      isplitl [Hq3]; · iexact Hq3
      isplitl [Hq4]; · iexact Hq4
      isplitl [Hq5]; · iexact Hq5
      iexact Hq6
    isplitl [Hc]; · iexact Hc
    iexact Hr
  isplitl [HW']
  · iexists W'; isplitr; · ipureintro; exact fun _ _ => Or.inl trivial
    iexact HW'
  isplitl [H0]
  · iexists x0; isplitr; · ipureintro; exact e0
    iexact H0
  · iexists x1; isplitr; · ipureintro; exact e1
    iexact H1

/-- The body's label runs the body at the point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m hw 0 c) (defs₀ (F := F)) Variants.none () Set.univ := fun t => by
  rw [bigSep_W0, bigSep_W0, defs₀_row]
  exact triple_restated (sound_body m hw c t) rfl .rfl fun _ => .rfl

/-! ## The run -/

set_option maxHeartbeats 800000 in
/-- The program up to the region and after it: the region, then the one line that transposes. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [] [hostOps1] (by simp only [List.Forall])
    (by simp only [List.Forall]) main_chain

/-- The result: what the body builds, batches outermost. -/
def final (c : Dev nD) : Buf (Elt F) ((c : Thread nD τ).loc main_v1) :=
  transpose S4x4097x768 [1, 0, 2] (stack m hw c) transposes_S4097x4x768_S4x4097x768_1_0_2

/-- Every buffer of core `c` after the region. -/
def afterRegion (c : Dev nD) : Valuation τ sig (Elt F) :=
  Pipeline.withArrays spec0 c (Pipeline.withR (V0 m c) R0 c (G m hw c)) fun w => (dats m hw 0 c).arrAt w cfg0.N

/-- The last line leaves the transposition of what the body built. -/
theorem tail_main_v1 (c : Dev nD) :
    StableHlo.after (List.flatten [hostOps1]) (afterRegion m hw c) (Proc.devRef .tc main_v1) = final m hw c := by
  show StableHlo.after hostOps1 _ _ = _
  unfold hostOps1 afterRegion final
  rw [StableHlo.after_cons, StableHlo.after_nil, StableHlo.unary_result,
    Pipeline.withArrays_of_ne _ c _ _ main_v0 (by exact (by decide : ∀ w, Pipeline.arrRef spec0 w ≠ main_v0)),
    Pipeline.withR_of_mem (V0 m c) R0 c (G m hw c) main_v0 (by decide), G_main_v0]

/-- The last line leaves `code` as it was. -/
theorem tail_main_arg0 (c : Dev nD) :
    StableHlo.after (List.flatten [hostOps1]) (afterRegion m hw c) (Proc.devRef .tc main_arg0) = m ((c : Thread nD τ).loc main_arg0) := by
  show StableHlo.after hostOps1 _ _ = _
  unfold hostOps1 afterRegion
  rw [StableHlo.after_cons, StableHlo.after_nil, HloOp.result_of_not_mem _ _ (by
      rw [StableHlo.unary_writes, Finset.mem_singleton]; exact StableHlo.devRef_ne_of_ne (by decide)),
    Pipeline.withArrays_of_ne _ c _ _ main_arg0 (by exact (by decide : ∀ w, Pipeline.arrRef spec0 w ≠ main_arg0)),
    Pipeline.withR_of_not_mem (V0 m c) R0 c (G m hw c) main_arg0 (by decide)]
  exact V_main_arg0 m c

set_option backward.isDefEq.respectTransparency.types false in
/-- The program runs and ends with its arguments as they were, every counter at zero, and the result the transposition of what the
body builds. -/
theorem run : θ_run defs (onTc (τ := τ) (main (F := F))) ⟨m, fun _ => 0, ρ⟩ (fun r => (∀ c : Dev nD,
      r.2.mem ((c.tc : Thread nD τ).loc main_v1) = final m hw c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_dmaR_aroundV (Q' := _) cfgs (dats m hw) (0 : Fin 1) launch0 osem0 defs₀ Variants.none ownSemFacts0 H0 R0 H0_sub R0_sub m ρ main
    (hbody := fun c => (body_obligation m hw c).loose) (hshare := fun c => (dats m hw 0 c).share_full fun _ => rfl)
    (howed := fun _ _ => rfl) (V₀ := V0 m) (opss := [hostOps1]) (hsub := sfx_sub) (hfresh := sfx_fresh) (hkeep := sfx_keeps) (G := G m hw)
    (hmain := main_around m) (hA := fun _ _ => rfl)
    (hin := fun _ => .rfl) (hout := fun _ => .rfl)
    (hQ' := fun r ⟨h, hz⟩ => by
      refine ⟨fun c => ⟨?_, ?_, ?_, ?_⟩, hz⟩
      · refine ((h c).2 main_v1 (Pipeline.mem_restRefs_of main_v1 (by decide) (by decide))).trans ?_
        exact tail_main_v1 m hw c
      · refine ((h c).2 main_arg0 (Pipeline.mem_restRefs_of main_arg0 (by decide) (by decide))).trans ?_
        exact tail_main_arg0 m hw c
      · exact ((h c).1 1).trans ((dats m hw 0 c).arrAt_in 1 rfl _)
      · exact ((h c).1 0).trans ((dats m hw 0 c).arrAt_in 0 rfl _))

end Cert.KernelIdeal.Hand

end
-- ==== Proof.Same.lean ====
/-
  The kernel at bit patterns and the kernel at ideal values are one text, so what `IdealFrame.lean` proves for any float
  values is also what the kernel does at bit patterns.
-/
module

public import proofs.«01_k».proof.Proof.IdealFrame
public import proofs.«01_k».proof.Proof.Gen.Kernel
public import Idealize.ShloMosaic.Adequacy

@[expose] public section

noncomputable section

namespace Cert.Kernel.Hand

open Idealize.ShloMosaic Idealize.ShloMosaic.TcCoe Idealize.SL.Sem
open Cert.KernelIdeal.Hand (lang)

variable {F : FTy → Type} [FloatOps F]

/-- The two texts have one entry program. -/
theorem main_same : Cert.Kernel.main (F := F) = Cert.KernelIdeal.main (F := F) := rfl

/-- The two texts have one kernel body. -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- The two texts have one table of bodies. -/
theorem defs_same : Cert.Kernel.defs (F := F) = Cert.KernelIdeal.defs (F := F) :=
  congrArg (Pipeline.defs (Cert.Kernel.pcfgs (F := F))) defs₀_same

/-- The kernel runs from any memory whose word of `lang_idx` selects a row of the table, leaves its arguments as they were and every
counter at zero. -/
theorem run (m : (ℓ : Loc Cert.Kernel.nD Cert.Kernel.τ Cert.Kernel.sig) → Buf (Elt F) ℓ) (ρ : Dev Cert.Kernel.nD → PrngReg)
    (hw : ∀ c, Cert.KernelIdeal.k0_chk1 (lang m c)) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [main_same, defs_same]
  exact (θ_run Cert.KernelIdeal.defs _ _).mono (fun _ h => ⟨fun c => (h.1 c).2, h.2⟩) (Cert.KernelIdeal.Hand.run m ρ hw)

end Cert.Kernel.Hand
-- ==== Proof.Index.lean ====
/-
  What the precondition says of the one word of `lang_idx`: it is the number of a row of the table.
-/
module

public import proofs.«01_k».proof.Proof.IdealRun
public import proofs.«01_k».proof.Proof.Gen.Pre_index_in_table
public import Idealize.ShloMosaic.Lib.ReduceAll

@[expose] public section

noncomputable section

namespace Cert.Hand

open Idealize.ShloMosaic Idealize.ShloMosaic.ValueIdx
open Cert.KernelIdeal (k0_chk1 k0_off1)

/-- A word at least 0 and below 21, both read signed, is the number of one of 21 rows. -/
theorem row_of_word (w : BitVec 32) (h : IntOp.andi (IntOp.cmpi .sge w 0#32) (IntOp.cmpi .slt w 21#32) = 1#1) :
    ∃ k : Fin 21, w = BitVec.ofNat 32 k.val := by
  obtain ⟨h1, h2⟩ := IntOp.andi_eq_one.1 h
  have e : ∀ b : Bool, BitVec.ofBool b = 1#1 → b = true := by decide
  have l : 0 ≤ w.toInt := by simpa using BitVec.sle_iff_toInt_le.1 (e _ h1)
  have u : w.toInt < 21 := by simpa using BitVec.slt_iff_toInt_lt.1 (e _ h2)
  refine ⟨⟨w.toInt.toNat, by omega⟩, BitVec.eq_of_toInt_eq ?_⟩
  show w.toInt = (BitVec.ofNat 32 w.toInt.toNat).toInt
  rw [BitVec.toInt_ofNat', Int.toNat_of_nonneg l, Int.bmod_eq_of_le (by omega) (by omega)]

/-- A scalar has one index. -/
instance : Subsingleton Cert.Pre_index_in_table.S_.Idx := ⟨fun _ _ => funext fun a => a.elim0⟩

/-- Where the precondition holds, the word of `lang_idx` is the number of a row of the table. -/
theorem row_of_pre {F : FTy → Type} [FloatOps F] (code : FVec F Cert.Pre_index_in_table.S4x4096x768 .f32)
    (tab : FVec F Cert.Pre_index_in_table.S21x768 .f32) (idx : IVec Cert.Pre_index_in_table.S1 32)
    (h : letI := Cert.Pre_index_in_table.Gen.facts; Cert.Pre_index_in_table.fn code tab idx = fun _ => 1#1) :
    ∃ k : Fin 21, idx (ix1 (0 : Fin 1)) = BitVec.ofNat 32 k.val :=
  row_of_word _ (Host.reduce_andi_all _ _ _ _ _ (congrFun h ix0) (ix1 (0 : Fin 1)))

/-- The number of a row is where the body reads the table. -/
theorem off_of_row (k : Fin 21) : k0_off1 (BitVec.ofNat 32 k.val) 0 = k.val := by revert k; decide

/-- A word that is the number of a row passes the body's check that the row lies in the table. -/
theorem chk_of_row {w : BitVec 32} (k : Fin 21) (h : w = BitVec.ofNat 32 k.val) : k0_chk1 w := by
  subst h
  intro a
  match a with
  | ⟨0, _⟩ => exact (Nat.add_le_add_right (off_of_row k).le 1).trans k.isLt
  | ⟨1, _⟩ => exact Nat.le_refl 768

end Cert.Hand
-- ==== Proof.Reference.lean ====
/-
  The value of the host reference, entry by entry: row 0 of every batch is the chosen row of the table, the rows below it are the rows of
  `code`; and what the kernel leaves is the same array.
-/
module

public import proofs.«01_k».proof.Proof.IdealFrame
public import proofs.«01_k».proof.Proof.Index
public import proofs.«01_k».proof.Proof.Gen.ReferenceIdeal.Run
public import Idealize.ShloMosaic.Lib.Routing.Ops

@[expose] public section

noncomputable section

namespace Cert.ReferenceIdeal.Hand

open Idealize.ShloMosaic Idealize.ShloMosaic.ValueIdx
open Cert.ReferenceIdeal Cert.ReferenceIdeal.Gen Cert.Hand
open Cert.KernelIdeal.Hand (one_index)

variable {F : FTy → Type} [FloatOps F]
variable (code : S4x4096x768.Idx → Elt F .f32) (tab : S21x768.Idx → Elt F .f32) (idx : IVec S1 32)

/-- The row number the gather is given: the word of `lang_idx`, 21 added where it is negative. -/
def start : IVec S1x1 32 :=
  broadcastInDim S1x1 ![0] bcast_S1_S1x1_0
    (select (cmpi .slt idx (broadcastInDim S1 ![] bcast_S_S1 (constantI S_ 32 0#32)))
      (addi idx (broadcastInDim S1 ![] bcast_S_S1 (constantI S_ 32 21#32))) idx)

/-- Whether that number lies in the table. -/
def inTable : IVec S1 1 :=
  Host.reduce IntOp.andi
    (andi (cmpi .sge (start idx) (broadcastInDim S1x1 ![] bcast_S_S1x1 (constantI S_ 32 0#32)))
      (cmpi .sle (start idx) (broadcastInDim S1x1 ![1] bcast_S1_S1x1_1 (constantI S1 32 20#32))))
    (constantI S_ 1 1#1) reducesTo_S1x1_S1_d1 h_S_

/-- The row taken from the table. -/
def taken : S1x768.Idx → Elt F .f32 :=
  select (broadcastInDim S1x768 ![0] bcast_S1_S1x768_0 (inTable idx))
    (Host.gather gather_S21x768_S1x1_S1x768_1_0_n_n_0_1_1768 tab (start idx))
    (broadcastInDim S1x768 ![] bcast_S_S1x768 (constant S_ .f32 0x7FC00000#32))

/-- The reference's result. -/
def value : S4x4097x768.Idx → Elt F .f32 :=
  concatenate S4x4097x768 1
    [⟨S4x1x768, broadcastInDim S4x1x768 ![0, 1, 2] bcast_S1x1x768_S4x1x768_0_1_2
        (broadcastInDim S1x1x768 ![1, 2] bcast_S1x768_S1x1x768_1_2 (taken tab idx))⟩, ⟨S4x4096x768, code⟩]
    concatenates_S4x1x768_S4x4096x768_S4x4097x768_d1

variable {idx} (k : Fin 21) (hk : idx (ix1 (0 : Fin 1)) = BitVec.ofNat 32 k.val)
include hk

/-- A word that is the number of a row is given to the gather as it is. -/
theorem start_eq (i : S1x1.Idx) : start idx i = BitVec.ofNat 32 k.val := by
  unfold start
  rw [broadcastInDim_apply (k := ix1 (0 : Fin 1)) _ _ _ _ (fun a => by match a with | ⟨0, _⟩ => rfl)]
  show Scalar.select (IntOp.cmpi .slt (idx (ix1 (0 : Fin 1))) 0#32) (idx (ix1 (0 : Fin 1)) + 21#32) (idx (ix1 (0 : Fin 1))) = _
  rw [hk]
  clear hk
  revert k
  decide

/-- The number of a row lies in the table. -/
theorem inTable_eq (i : S1.Idx) : inTable idx i = 1#1 := by
  unfold inTable
  refine Host.reduce_andi_one _ _ _ _ _ rfl fun j => ?_
  show IntOp.andi (IntOp.cmpi .sge (start idx j) 0#32) (IntOp.cmpi .sle (start idx j) 20#32) = 1#1
  rw [start_eq k hk]
  clear hk
  revert k
  decide

/-- The row taken is row `k` of the table. -/
theorem taken_eq (d : Fin 768) : taken tab idx (ix2 (0 : Fin 1) d) = tab (ix2 k d) := by
  unfold taken
  show Scalar.select (inTable idx _) (Host.gather _ tab (start idx) (ix2 (0 : Fin 1) d)) _ = _
  rw [inTable_eq k hk, Routing.gather_row _ rfl rfl rfl rfl rfl tab (start idx) (0 : Fin 1) d k (start_eq k hk _) (by decide)]
  rfl

/-- Row 0 of the reference's result. -/
theorem value_top (b : Fin 4) (r : Fin 4097) (d : Fin 768) (h : r.val = 0) :
    value code tab idx (ix3 b r d) = tab (ix2 k d) := by
  unfold value
  refine (concatenate_pair_apply_left (t := S4x4097x768) (s₁ := S4x1x768) (1 : Fin 3) _ _ _ _ rfl (ix3 b (0 : Fin 1) d) (fun a => by
    match a with
    | ⟨0, _⟩ => rfl
    | ⟨1, _⟩ => exact h.symm
    | ⟨2, _⟩ => rfl)).trans ?_
  rw [broadcastInDim_apply (k := ix3 (0 : Fin 1) (0 : Fin 1) d) _ _ _ _ (fun a => by
      match a with
      | ⟨0, _⟩ => rfl
      | ⟨1, _⟩ => rfl
      | ⟨2, _⟩ => rfl),
    broadcastInDim_apply (k := ix2 (0 : Fin 1) d) _ _ _ _ (fun a => by
      match a with
      | ⟨0, _⟩ => rfl
      | ⟨1, _⟩ => rfl)]
  exact taken_eq tab k hk d

omit hk in
/-- The rows of the reference's result below row 0. -/
theorem value_below (b : Fin 4) (r : Fin 4097) (d : Fin 768) (s : Fin 4096) (h : r.val = s.val + 1) :
    value code tab idx (ix3 b r d) = code (ix3 b s d) := by
  unfold value
  exact concatenate_pair_apply_right (t := S4x4097x768) (s₁ := S4x1x768) (s₂ := S4x4096x768) (1 : Fin 3) _ _ _ _ rfl rfl (ix3 b s d) (fun a ha => by
    match a with
    | ⟨0, _⟩ => rfl
    | ⟨1, _⟩ => exact absurd rfl ha
    | ⟨2, _⟩ => rfl) h.symm

/-- What the kernel leaves, transposed, is the reference's result. -/
theorem final_eq (c : Dev Cert.KernelIdeal.nD) {w : BitVec 32} (hw : w = BitVec.ofNat 32 k.val) (h : Cert.KernelIdeal.k0_chk1 w) :
    transpose S4x4097x768 [1, 0, 2] (Cert.KernelIdeal.Hand.result c w tab code h)
      Cert.KernelIdeal.Gen.transposes_S4097x4x768_S4x4097x768_1_0_2 = value code tab idx := by
  funext y
  obtain ⟨b, r, d, rfl⟩ : ∃ (b : Fin 4) (r : Fin 4097) (d : Fin 768), y = ix3 b r d := ⟨y 0, y 1, y 2, by
    funext a
    match a with
    | ⟨0, _⟩ => rfl
    | ⟨1, _⟩ => rfl
    | ⟨2, _⟩ => rfl⟩
  rw [transpose_apply (k := ix3 r b d) _ _ _ _ (fun a => by
      match a with
      | ⟨0, _⟩ => rfl
      | ⟨1, _⟩ => rfl
      | ⟨2, _⟩ => rfl)]
  unfold Cert.KernelIdeal.Hand.result
  by_cases hr : r.val = 0
  · rw [stacked_top _ _ _ _ _ _ hr, value_top code tab k hk b r d hr]
    subst hw
    exact congrArg tab (congrArg (fun q => ix2 q d) (Fin.ext (off_of_row k)))
  · have hs : r.val = (⟨r.val - 1, by omega⟩ : Fin 4096).val + 1 := by show r.val = r.val - 1 + 1; omega
    rw [stacked_below _ _ _ _ _ _ _ hs, value_below code tab b r d _ hs]

end Cert.ReferenceIdeal.Hand
-- ==== Proof.lean ====
/-
  The proof of `Cert.Claim`: the kernel, at bit patterns and at ideal values, and the reference run and leave their arguments and every
  counter as they were; and at ideal values the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_index_in_table
public import proofs.«01_k».proof.Proof.Same
public import proofs.«01_k».proof.Proof.Reference
public import Idealize.ShloMosaic.Adequacy
public import Idealize.ShloMosaic.Init

@[expose] public section

noncomputable section

namespace Cert.Proof

open Idealize.ShloMosaic Idealize.SL.Sem Cert.Kernel

open Cert.KernelIdeal.Hand (lang)

/-- The kernel at bit patterns runs and leaves its arguments as they were and every counter at zero. -/
theorem frame_kernel : letI := Cert.Kernel.Gen.facts; letI := Cert.Pre_index_in_table.Gen.facts; Cert.quiescent_Kernel := by
  intro m g hm
  refine Cert.Kernel.Hand.run m g fun c => ?_
  obtain ⟨k, hk⟩ := Cert.Hand.row_of_pre _ _ _ (hm c)
  exact Cert.Hand.chk_of_row k hk

/-- The word of `lang_idx` at ideal values is the number of a row of the table. -/
theorem row_of_pre_ideal (m : (ℓ : Loc Cert.KernelIdeal.nD Cert.KernelIdeal.τ Cert.KernelIdeal.sig) → Buf (Elt Ideal) ℓ)
    (hm : letI := Cert.Pre_index_in_table.Gen.facts; Cert.Pre_KernelIdeal m) (c : Dev Cert.KernelIdeal.nD) :
    ∃ k : Fin 21, lang m c = BitVec.ofNat 32 k.val :=
  Cert.Hand.row_of_pre _ _ _ (hm c)

/-- The kernel at ideal values runs and leaves its arguments as they were and every counter at zero. -/
theorem frame_ideal : letI := Cert.KernelIdeal.Gen.facts; letI := Cert.Pre_index_in_table.Gen.facts; Cert.quiescent_KernelIdeal := by
  intro m g hm
  exact (θ_run Cert.KernelIdeal.defs _ _).mono (fun _ h => ⟨fun c => (h.1 c).2, h.2⟩)
    (Cert.KernelIdeal.Hand.run m g fun c => (row_of_pre_ideal m hm c).elim fun k hk => Cert.Hand.chk_of_row k hk)

/-- The reference runs and leaves its arguments as they were; it has no counters. -/
theorem frame_reference : letI := Cert.ReferenceIdeal.Gen.facts; Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- At ideal values the kernel's result is the reference's: both end at the array whose row 0 is the chosen row of the table in every
batch and whose other rows are those of `code`. -/
theorem value : letI := Cert.KernelIdeal.Gen.facts; letI := Cert.ReferenceIdeal.Gen.facts; letI := Cert.Pre_index_in_table.Gen.facts;
    Cert.algebraic_KernelIdeal_ReferenceIdeal := by
  intro m g m' g' hm hargs
  have hw : ∀ c, Cert.KernelIdeal.k0_chk1 (lang m c) := fun c =>
    (row_of_pre_ideal m hm c).elim fun k hk => Cert.Hand.chk_of_row k hk
  refine ⟨fun c => Cert.KernelIdeal.Hand.final m hw c,
    (θ_run Cert.KernelIdeal.defs _ _).mono (fun _ h => h.1) (Cert.KernelIdeal.Hand.run m g hw),
    (θ_run Cert.ReferenceIdeal.defs _ _).mono (fun r h c => ⟨(h c).1.trans ?_, (h c).2⟩) (Cert.ReferenceIdeal.Value.run m' g')⟩
  obtain ⟨e0, e1, e2⟩ := hargs c
  rw [e0, e1, e2]
  obtain ⟨k, hk⟩ := row_of_pre_ideal m hm c
  exact (Cert.ReferenceIdeal.Hand.final_eq _ _ k hk c hk (hw c)).symm

/-- All the claims. -/
theorem claim : Cert.Claim :=
  ⟨Cert.Kernel.Gen.facts, Cert.KernelIdeal.Gen.facts, Cert.ReferenceIdeal.Gen.facts, Cert.Pre_index_in_table.Gen.facts,
    frame_kernel, frame_ideal, frame_reference, fun m g _ => frame_reference m g trivial, trivial, value⟩

end Cert.Proof

end
